-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tags_in_range [hPre_tags_in_range : Cert.Pre_tags_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_tags_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tags_in_range [hPre_tags_in_range : Cert.Pre_tags_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tags_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_tags_in_range [hKernelIdeal : Cert.KernelIdeal.Facts] [hPre_tags_in_range : Cert.Pre_tags_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tags_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_tags_in_range [hReferenceIdeal : Cert.ReferenceIdeal.Facts] [hPre_tags_in_range : Cert.Pre_tags_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tags_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_d" .f32 0x3A124925#32 ((1792⁻¹ : ℝ) : EReal)

def algebraic_KernelIdeal_ReferenceIdeal_pre_tags_in_range [hKernelIdeal : Cert.KernelIdeal.Facts] [hReferenceIdeal : Cert.ReferenceIdeal.Facts] [hPre_tags_in_range : Cert.Pre_tags_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tags_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_tags_in_range : Cert.Pre_tags_in_range.Facts),
    quiescent_Kernel (hKernel := hKernel)
    ∧ quiescent_KernelIdeal (hKernelIdeal := hKernelIdeal)
    ∧ quiescent_KernelIdeal_pre_tags_in_range (hKernelIdeal := hKernelIdeal) (hPre_tags_in_range := hPre_tags_in_range)
    ∧ quiescent_ReferenceIdeal (hReferenceIdeal := hReferenceIdeal)
    ∧ quiescent_ReferenceIdeal_pre_tags_in_range (hReferenceIdeal := hReferenceIdeal) (hPre_tags_in_range := hPre_tags_in_range)
    ∧ preserves_Kernel_KernelIdeal
    ∧ algebraic_KernelIdeal_ReferenceIdeal_pre_tags_in_range (hKernelIdeal := hKernelIdeal) (hReferenceIdeal := hReferenceIdeal) (hPre_tags_in_range := hPre_tags_in_range)
-- ==== Pre_tags_in_range.lean ====
abbrev S4x4096x1792 : Shape := ⟨3, ![4, 4096, 1792]⟩
abbrev S4x4096 : Shape := ⟨2, ![4, 4096]⟩
abbrev S2x1792 : Shape := ⟨2, ![2, 1792]⟩
abbrev S1792 : Shape := ⟨1, ![1792]⟩
abbrev S_ : Shape := ⟨0, ![]⟩

class Facts : Prop where
  bcast_S_S4x4096 : S_.BroadcastsInDim S4x4096 (![] : Fin 0 → Fin S4x4096.rank)

variable [Facts]

def fn {F : FTy → Type} [FloatOps F] (main_arg0 : FVec F S4x4096x1792 .f32) (main_arg1 : IVec S4x4096 32) (main_arg2 : FVec F S2x1792 .f32) (main_arg3 : FVec F S1792 .f32) (main_arg4 : FVec F S1792 .f32) : IVec S4x4096 1 :=
  let main_c : IVec S_ 32 := constantI S_ 32 0#32
  let main_v0 : IVec S4x4096 32 := broadcastInDim S4x4096 ![] bcast_S_S4x4096 main_c
  let main_v1 : IVec S4x4096 1 := cmpi .sge main_arg1 main_v0
  let main_c_0 : IVec S_ 32 := constantI S_ 32 2#32
  let main_v2 : IVec S4x4096 32 := broadcastInDim S4x4096 ![] bcast_S_S4x4096 main_c_0
  let main_v3 : IVec S4x4096 1 := cmpi .slt main_arg1 main_v2
  let main_v4 : IVec S4x4096 1 := andi main_v1 main_v3
  main_v4
-- ==== Kernel.lean ====
abbrev S4x4096x1792 : Shape := ⟨3, ![4, 4096, 1792]⟩
abbrev S4x4096 : Shape := ⟨2, ![4, 4096]⟩
abbrev S2x1792 : Shape := ⟨2, ![2, 1792]⟩
abbrev S1792 : Shape := ⟨1, ![1792]⟩
abbrev S16384x1792 : Shape := ⟨2, ![16384, 1792]⟩
abbrev S16384x1 : Shape := ⟨2, ![16384, 1]⟩
abbrev S1x1792 : Shape := ⟨2, ![1, 1792]⟩
abbrev S1024x1792 : Shape := ⟨2, ![1024, 1792]⟩
abbrev S1024x1 : Shape := ⟨2, ![1024, 1]⟩
abbrev S1024 : Shape := ⟨1, ![1024]⟩

abbrev nBuf : Space → Nat
  | .hbm => 12
  | .vmem => 9
  | .smem => 0
  | _ => 0

abbrev bufTy : (tb : Table) → Fin (tcTables nBuf tb) → BufTy
  | .hbm, ⟨0, _⟩ => ⟨S4x4096x1792, .f32⟩
  | .hbm, ⟨1, _⟩ => ⟨S4x4096, .i32⟩
  | .hbm, ⟨2, _⟩ => ⟨S2x1792, .f32⟩
  | .hbm, ⟨3, _⟩ => ⟨S1792, .f32⟩
  | .hbm, ⟨4, _⟩ => ⟨S1792, .f32⟩
  | .hbm, ⟨5, _⟩ => ⟨S16384x1792, .f32⟩
  | .hbm, ⟨6, _⟩ => ⟨S16384x1, .i32⟩
  | .hbm, ⟨7, _⟩ => ⟨S16384x1, .f32⟩
  | .hbm, ⟨8, _⟩ => ⟨S1x1792, .f32⟩
  | .hbm, ⟨9, _⟩ => ⟨S1x1792, .f32⟩
  | .hbm, ⟨10, _⟩ => ⟨S16384x1792, .f32⟩
  | .hbm, ⟨11, _⟩ => ⟨S4x4096x1792, .f32⟩
  | .local _ .vmem, ⟨0, _⟩ => ⟨S1024x1792, .f32⟩
  | .local _ .vmem, ⟨1, _⟩ => ⟨S1024x1792, .f32⟩
  | .local _ .vmem, ⟨2, _⟩ => ⟨S1024x1, .f32⟩
  | .local _ .vmem, ⟨3, _⟩ => ⟨S1024x1, .f32⟩
  | .local _ .vmem, ⟨4, _⟩ => ⟨S2x1792, .f32⟩
  | .local _ .vmem, ⟨5, _⟩ => ⟨S1x1792, .f32⟩
  | .local _ .vmem, ⟨6, _⟩ => ⟨S1x1792, .f32⟩
  | .local _ .vmem, ⟨7, _⟩ => ⟨S1024x1792, .f32⟩
  | .local _ .vmem, ⟨8, _⟩ => ⟨S1024x1792, .f32⟩
  | _, _ => ⟨S4x4096x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x1792 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1792 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1792 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "inv_d" => some ((1792⁻¹ : ℝ) : EReal)
  | _ => none
-- ==== ReferenceIdeal.lean ====
abbrev S4x4096x1792 : Shape := ⟨3, ![4, 4096, 1792]⟩
abbrev S4x4096 : Shape := ⟨2, ![4, 4096]⟩
abbrev S2x1792 : Shape := ⟨2, ![2, 1792]⟩
abbrev S1792 : Shape := ⟨1, ![1792]⟩
abbrev S_ : Shape := ⟨0, ![]⟩
abbrev S4x4096x1 : Shape := ⟨3, ![4, 4096, 1]⟩
abbrev S1 : Shape := ⟨1, ![1]⟩
abbrev S1x1x1 : Shape := ⟨3, ![1, 1, 1]⟩
abbrev S1x1x1792 : Shape := ⟨3, ![1, 1, 1792]⟩

abbrev nBuf : Space → Nat
  | .hbm => 73
  | .vmem => 0
  | .smem => 0
  | _ => 0

abbrev bufTy : (tb : Table) → Fin (tcTables nBuf tb) → BufTy
  | .hbm, ⟨0, _⟩ => ⟨S4x4096x1792, .f32⟩
  | .hbm, ⟨1, _⟩ => ⟨S4x4096, .i32⟩
  | .hbm, ⟨2, _⟩ => ⟨S2x1792, .f32⟩
  | .hbm, ⟨3, _⟩ => ⟨S1792, .f32⟩
  | .hbm, ⟨4, _⟩ => ⟨S1792, .f32⟩
  | .hbm, ⟨5, _⟩ => ⟨S_, .i32⟩
  | .hbm, ⟨6, _⟩ => ⟨S4x4096, .i32⟩
  | .hbm, ⟨7, _⟩ => ⟨S4x4096, .i1⟩
  | .hbm, ⟨8, _⟩ => ⟨S_, .i32⟩
  | .hbm, ⟨9, _⟩ => ⟨S4x4096, .i32⟩
  | .hbm, ⟨10, _⟩ => ⟨S4x4096, .i32⟩
  | .hbm, ⟨11, _⟩ => ⟨S4x4096, .i32⟩
  | .hbm, ⟨12, _⟩ => ⟨S4x4096x1, .i32⟩
  | .hbm, ⟨13, _⟩ => ⟨S1, .i32⟩
  | .hbm, ⟨14, _⟩ => ⟨S_, .i32⟩
  | .hbm, ⟨15, _⟩ => ⟨S4x4096x1, .i32⟩
  | .hbm, ⟨16, _⟩ => ⟨S4x4096x1, .i1⟩
  | .hbm, ⟨17, _⟩ => ⟨S1x1x1, .i32⟩
  | .hbm, ⟨18, _⟩ => ⟨S4x4096x1, .i32⟩
  | .hbm, ⟨19, _⟩ => ⟨S4x4096x1, .i1⟩
  | .hbm, ⟨20, _⟩ => ⟨S4x4096x1, .i1⟩
  | .hbm, ⟨21, _⟩ => ⟨S_, .i1⟩
  | .hbm, ⟨22, _⟩ => ⟨S4x4096, .i1⟩
  | .hbm, ⟨23, _⟩ => ⟨S4x4096x1792, .f32⟩
  | .hbm, ⟨24, _⟩ => ⟨S4x4096x1792, .i1⟩
  | .hbm, ⟨25, _⟩ => ⟨S_, .f32⟩
  | .hbm, ⟨26, _⟩ => ⟨S4x4096x1792, .f32⟩
  | .hbm, ⟨27, _⟩ => ⟨S4x4096x1792, .f32⟩
  | .hbm, ⟨28, _⟩ => ⟨S4x4096x1792, .f32⟩
  | .hbm, ⟨29, _⟩ => ⟨S_, .f32⟩
  | .hbm, ⟨30, _⟩ => ⟨S4x4096, .f32⟩
  | .hbm, ⟨31, _⟩ => ⟨S4x4096x1, .f32⟩
  | .hbm, ⟨32, _⟩ => ⟨S_, .f32⟩
  | .hbm, ⟨33, _⟩ => ⟨S4x4096x1, .f32⟩
  | .hbm, ⟨34, _⟩ => ⟨S4x4096x1, .f32⟩
  | .hbm, ⟨35, _⟩ => ⟨S_, .i32⟩
  | .hbm, ⟨36, _⟩ => ⟨S_, .f32⟩
  | .hbm, ⟨37, _⟩ => ⟨S4x4096, .f32⟩
  | .hbm, ⟨38, _⟩ => ⟨S4x4096x1, .f32⟩
  | .hbm, ⟨39, _⟩ => ⟨S_, .f32⟩
  | .hbm, ⟨40, _⟩ => ⟨S4x4096x1, .f32⟩
  | .hbm, ⟨41, _⟩ => ⟨S4x4096x1, .f32⟩
  | .hbm, ⟨42, _⟩ => ⟨S4x4096x1792, .f32⟩
  | .hbm, ⟨43, _⟩ => ⟨S4x4096x1792, .f32⟩
  | .hbm, ⟨44, _⟩ => ⟨S4x4096x1792, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S4x4096, .f32⟩
  | .hbm, ⟨50, _⟩ => ⟨S4x4096x1, .f32⟩
  | .hbm, ⟨51, _⟩ => ⟨S4x4096x1, .f32⟩
  | .hbm, ⟨52, _⟩ => ⟨S4x4096x1, .f32⟩
  | .hbm, ⟨53, _⟩ => ⟨S_, .f32⟩
  | .hbm, ⟨54, _⟩ => ⟨S_, .i1⟩
  | .hbm, ⟨55, _⟩ => ⟨S_, .f32⟩
  | .hbm, ⟨56, _⟩ => ⟨S_, .f32⟩
  | .hbm, ⟨57, _⟩ => ⟨S4x4096x1, .f32⟩
  | .hbm, ⟨58, _⟩ => ⟨S4x4096x1, .f32⟩
  | .hbm, ⟨59, _⟩ => ⟨S4x4096x1792, .f32⟩
  | .hbm, ⟨60, _⟩ => ⟨S4x4096x1792, .f32⟩
  | .hbm, ⟨61, _⟩ => ⟨S_, .f32⟩
  | .hbm, ⟨62, _⟩ => ⟨S4x4096x1, .f32⟩
  | .hbm, ⟨63, _⟩ => ⟨S4x4096x1, .f32⟩
  | .hbm, ⟨64, _⟩ => ⟨S4x4096x1, .f32⟩
  | .hbm, ⟨65, _⟩ => ⟨S4x4096x1792, .f32⟩
  | .hbm, ⟨66, _⟩ => ⟨S4x4096x1792, .f32⟩
  | .hbm, ⟨67, _⟩ => ⟨S1x1x1792, .f32⟩
  | .hbm, ⟨68, _⟩ => ⟨S4x4096x1792, .f32⟩
  | .hbm, ⟨69, _⟩ => ⟨S4x4096x1792, .f32⟩
  | .hbm, ⟨70, _⟩ => ⟨S1x1x1792, .f32⟩
  | .hbm, ⟨71, _⟩ => ⟨S4x4096x1792, .f32⟩
  | .hbm, ⟨72, _⟩ => ⟨S4x4096x1792, .f32⟩
  | _, _ => ⟨S4x4096x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_v1 : Ref sig .tc := ⟨.hbm, 28, rfl⟩
abbrev main_cst : Ref sig .tc := ⟨.hbm, 29, rfl⟩
abbrev main_v2 : Ref sig .tc := ⟨.hbm, 30, rfl⟩
abbrev main_v3 : Ref sig .tc := ⟨.hbm, 31, rfl⟩
abbrev main_cst_0 : Ref sig .tc := ⟨.hbm, 32, rfl⟩
abbrev main_v4 : Ref sig .tc := ⟨.hbm, 33, rfl⟩
abbrev main_v5 : Ref sig .tc := ⟨.hbm, 34, rfl⟩
abbrev main_c : Ref sig .tc := ⟨.hbm, 35, rfl⟩
abbrev main_call1_cst : Ref sig .tc := ⟨.hbm, 36, rfl⟩
abbrev main_call1_v0 : Ref sig .tc := ⟨.hbm, 37, rfl⟩
abbrev main_call1_v1 : Ref sig .tc := ⟨.hbm, 38, rfl⟩
abbrev main_call1_cst_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_v6 : Ref sig .tc := ⟨.hbm, 44, rfl⟩
abbrev main_call1_v7 : Ref sig .tc := ⟨.hbm, 45, rfl⟩
abbrev main_call1_cst_1 : Ref sig .tc := ⟨.hbm, 46, rfl⟩
abbrev main_call1_v8 : Ref sig .tc := ⟨.hbm, 47, rfl⟩
abbrev main_call1_cst_2 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_v12 : Ref sig .tc := ⟨.hbm, 52, rfl⟩
abbrev main_call1_cst_3 : Ref sig .tc := ⟨.hbm, 53, rfl⟩
abbrev main_call1_v13 : Ref sig .tc := ⟨.hbm, 54, rfl⟩
abbrev main_call1_cst_4 : Ref sig .tc := ⟨.hbm, 55, rfl⟩
abbrev main_call1_call0_v0 : Ref sig .tc := ⟨.hbm, 56, rfl⟩
abbrev main_call1_call0_v1 : Ref sig .tc := ⟨.hbm, 57, rfl⟩
abbrev main_v6 : Ref sig .tc := ⟨.hbm, 58, rfl⟩
abbrev main_v7 : Ref sig .tc := ⟨.hbm, 59, rfl⟩
abbrev main_v8 : Ref sig .tc := ⟨.hbm, 60, rfl⟩
abbrev main_cst_1 : Ref sig .tc := ⟨.hbm, 61, rfl⟩
abbrev main_v9 : Ref sig .tc := ⟨.hbm, 62, rfl⟩
abbrev main_v10 : Ref sig .tc := ⟨.hbm, 63, rfl⟩
abbrev main_v11 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩

abbrev nD : Nat := 1
abbrev τ : Topo := Topo.v7x

variable {F : FTy → Type} [FloatOps F]
-- ==== Proof.Consts.lean ====
/- UNTRUSTED — the float constants that the two programs spell, as the extended reals they denote at `Ideal`. One module
   unfolds `Ideal.ofBits`; every other module reads a constant's value here. -/
module

public import Idealize.ShloMosaic.PureOps.Ideal

@[expose] public section

noncomputable section

namespace Cert.Consts

open Idealize.ShloMosaic

/-- The threshold `0.5` that the kernel compares a tag with denotes the real `2⁻¹`. -/
theorem ofBits_half : Ideal.ofBits .f32 0x3F000000#32 = ((2⁻¹ : ℝ) : EReal) := by
  simp [Ideal.ofBits, Ideal.ieee, -EReal.coe_mul]; norm_num

/-- The row length `1792.0` that the reference divides by denotes the real `1792`. -/
theorem ofBits_1792 : Ideal.ofBits .f32 0x44E00000#32 = ((1792 : ℝ) : EReal) := by
  simp [Ideal.ofBits, Ideal.ieee, -EReal.coe_mul]; norm_num

/-- The number added to the variance (about `10⁻⁵`), as the dyadic rational that its pattern denotes. -/
theorem ofBits_eps : Ideal.ofBits .f32 0x3727C5AC#32 = ((10995116 * (2 : ℝ) ^ (-40 : ℤ) : ℝ) : EReal) := by
  simp [Ideal.ofBits, Ideal.ieee, -EReal.coe_mul]

/-- That number is positive. -/
theorem eps_pos : (0 : EReal) < Ideal.ofBits .f32 0x3727C5AC#32 := by
  rw [ofBits_eps]
  exact_mod_cast (by positivity : (0 : ℝ) < 10995116 * (2 : ℝ) ^ (-40 : ℤ))

end Cert.Consts

end
-- ==== Proof.Row.lean ====
/- UNTRUSTED — the mathematics of one row, free of any program: layer normalization of 1792 extended reals as the kernel
   spells it (products with 1/1792 and with a reciprocal root) and as the reference spells it (quotients by 1792 and by a
   root), and the proof that the two agree at every row, infinities included. -/
module

public import Idealize.ShloMosaic.PureOps.Ideal
public import proofs.«01_k».proof.Proof.Consts

@[expose] public section

noncomputable section

namespace Cert.Row

open Idealize.ShloMosaic

/-- The number added to the variance. -/
abbrev eps : EReal := Ideal.ofBits .f32 0x3727C5AC#32

/-- The row length as the reference's constant. -/
abbrev len : EReal := Ideal.ofBits .f32 0x44E00000#32

/-- The mean of a row, as the kernel computes it: the sum times 1/1792. -/
def mean (y : Fin 1792 → EReal) : EReal := (∑ k, y k) * ((1792⁻¹ : ℝ) : EReal)

/-- The variance of a row, as the kernel computes it: the sum of the squared deviations times 1/1792. -/
def var (y : Fin 1792 → EReal) : EReal := (∑ k, (y k - mean y) * (y k - mean y)) * ((1792⁻¹ : ℝ) : EReal)

/-- One element of the kernel's normalized row, scaled by `g` and shifted by `b`. -/
def norm (y : Fin 1792 → EReal) (g b : EReal) (l : Fin 1792) : EReal :=
  (y l - mean y) * Ideal.rsqrt (var y + eps) * g + b

/-- The mean as the reference computes it: the sum divided by 1792. -/
def refMean (y : Fin 1792 → EReal) : EReal := Ideal.div (∑ k, y k) len

/-- The variance as the reference computes it: the sum of the squared deviations divided by 1792. -/
def refVar (y : Fin 1792 → EReal) : EReal := Ideal.div (∑ k, (y k - refMean y) * (y k - refMean y)) len

/-- One element of the reference's normalized row, scaled by `g` and shifted by `b`. -/
def refNorm (y : Fin 1792 → EReal) (g b : EReal) (l : Fin 1792) : EReal :=
  Ideal.div (y l - refMean y) (Ideal.sqrt (refVar y + eps)) * g + b

/-- Dividing by the row length is multiplying by 1/1792. -/
theorem div_len (x : EReal) : Ideal.div x len = x * ((1792⁻¹ : ℝ) : EReal) := by
  unfold len
  rw [Consts.ofBits_1792, Ideal.div_coe (by norm_num), one_div]

/-- The two means are equal. -/
theorem refMean_eq (y : Fin 1792 → EReal) : refMean y = mean y := div_len _

/-- The two variances are equal. -/
theorem refVar_eq (y : Fin 1792 → EReal) : refVar y = var y := by
  unfold refVar var; rw [div_len, refMean_eq]

/-- The square of an extended real is not negative. -/
theorem mul_self_nonneg (x : EReal) : 0 ≤ x * x := by
  induction x using EReal.rec with
  | bot => simp
  | coe r => exact_mod_cast _root_.mul_self_nonneg r
  | top => simp

/-- The variance is not negative. -/
theorem var_nonneg (y : Fin 1792 → EReal) : 0 ≤ var y :=
  EReal.mul_nonneg (Finset.sum_nonneg fun _ _ => mul_self_nonneg _) (by exact_mod_cast (by norm_num : (0 : ℝ) ≤ 1792⁻¹))

/-- So the number under the root is positive. -/
theorem var_add_eps_pos (y : Fin 1792 → EReal) : 0 < var y + eps :=
  lt_of_lt_of_le Consts.eps_pos (le_add_of_nonneg_left (var_nonneg y))

/-- Multiplying by the reciprocal root of a positive number is dividing by its root, at `+∞` too. -/
theorem mul_rsqrt (x v : EReal) (hv : 0 < v) : x * Ideal.rsqrt v = Ideal.div x (Ideal.sqrt v) := by
  induction v using EReal.rec with
  | bot => simp at hv
  | coe r =>
    have hr : 0 < r := by exact_mod_cast hv
    rw [Ideal.rsqrt_coe, Ideal.sqrt_coe, if_neg hr.le.not_gt, if_neg hr.ne', if_neg hr.le.not_gt,
      Ideal.div_coe (Real.sqrt_pos.mpr hr).ne', one_div]
  | top => rw [Ideal.rsqrt_top, Ideal.sqrt_top, Ideal.div, if_neg EReal.top_ne_zero, EReal.inv_top]

/-- THE EQUATION: the reference's normalized row is the kernel's, element by element. -/
theorem refNorm_eq (y : Fin 1792 → EReal) (g b : EReal) (l : Fin 1792) : refNorm y g b l = norm y g b l := by
  unfold refNorm norm
  rw [refMean_eq, refVar_eq, mul_rsqrt _ _ (var_add_eps_pos y)]

end Cert.Row

end
-- ==== Proof.Block.lean ====
/- UNTRUSTED — what ONE BLOCK of the kernel computes: element `(r, l)` of the block it stores is the normalized row `r` of
   `x + (row of the table that the tag picks)`, scaled and shifted. -/
module

public import proofs.«01_k».proof.Proof.Gen.KernelIdeal.Frame
public import proofs.«01_k».proof.Proof.Row
public import Idealize.ShloMosaic.Lib.Pointwise
public import Idealize.ShloMosaic.Lib.Pipeline.Value
public import Idealize.ShloMosaic.PureOps.IdealRules

@[expose] public section

set_option maxRecDepth 16384

noncomputable section

namespace Cert.Block

open Idealize.ShloMosaic Cert.KernelIdeal Cert.KernelIdeal.Gen

/-- The named constant denotes 1/1792 in the extended reals. -/
theorem inv_d : (Named.named κ "inv_d" 0x3A124925#32 : Ideal .f32) = ((1792⁻¹ : ℝ) : EReal) :=
  IdealRules.named_const.ideal_named_scalar _ _ _ _ rfl

/-- The stored value at `(r, l)`, from the values loaded: `x` the activations, `t` the tags as floats, `e0` and `e1` the
    two rows of the table, `g` the scale and `b` the shift. -/
theorem pay_apply (x : FVec Ideal S1024x1792 .f32) (t : FVec Ideal S1024x1 .f32) (e0 e1 g b : FVec Ideal S1x1792 .f32)
    (r : Fin 1024) (l : Fin 1792) :
    k0_pay1 (F := Ideal) (k0_pay2 (F := Ideal) x t e0 e1 g) b (ix2 r l)
      = Row.norm (fun k => x (ix2 r k) + if Ideal.ofBits .f32 0x3F000000#32 < t (ix2 r 0) then e1 (ix2 0 k) else e0 (ix2 0 k))
          (g (ix2 0 l)) (b (ix2 0 l)) l := by
  pointwise [k0_pay1, k0_pay2]
  simp only [inv_d]
  rfl

/-- The row that the kernel normalizes: the activations plus the table's row 1 where the tag exceeds 0.5, row 0 elsewhere. -/
def embRow (x : Fin 1792 → EReal) (t : EReal) (e : FVec Ideal S2x1792 .f32) : Fin 1792 → EReal :=
  fun k => x k + if Ideal.ofBits .f32 0x3F000000#32 < t then e (ix2 1 k) else e (ix2 0 k)

/-- Element `(r, l)` of the output block, from the five input blocks. -/
theorem out_apply (x0 : Vec Ideal S1024x1792 .f32) (x1 : Vec Ideal S1024x1 .f32) (x2 : Vec Ideal S2x1792 .f32)
    (x3 x4 : Vec Ideal S1x1792 .f32) (r : Fin 1024) (l : Fin 1792) :
    out0_5 (F := Ideal) x0 x1 x2 x3 x4 (ix2 r l)
      = Row.norm (embRow (fun k => x0 (ix2 r k)) (x1 (ix2 r 0)) x2) (x3 (ix2 0 l)) (x4 (ix2 0 l)) l := by
  have z : (![0, 0] : Fin 2 → Nat) = fun _ => 0 := by decide
  unfold out0_5
  rw [View.canon_unit_zero z, View.ld_unit_zero z, View.ld_unit_zero z, View.ld_unit_zero z, View.ld_unit_zero z, pay_apply]
  pointwise
  rfl

end Cert.Block

end
-- ==== Proof.Array.lean ====
/- UNTRUSTED — what the ARRAY holds after the pipeline: the 16 blocks of 1024 rows fill it, and every element is the
   normalized row read off the arrays that the pipeline found at its entry. -/
module

public import proofs.«01_k».proof.Proof.Block

@[expose] public section

set_option maxRecDepth 16384

noncomputable section

namespace Cert.Array

open Idealize.ShloMosaic Idealize.ShloMosaic.TcCoe Cert.KernelIdeal Cert.KernelIdeal.Gen
open Idealize.ShloMosaic.Pipeline (Dat)

variable (m : (ℓ : Loc nD τ sig) → Buf (Elt Ideal) ℓ)

/-- Row `r` of block `t` is row `1024 t + r` of the array. -/
def rowAt (t : Fin cfg0.N) (r : Fin 1024) : Fin 16384 :=
  ⟨t.val * 1024 + r.val, by have := t.isLt; have : t.val < 16 := this; omega⟩

/-- The row block of each row window at point `t` is number `t`; the table, scale and shift are one block. -/
theorem index_facts : ∀ t : Fin grid0.N,
    (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = t.val ∧ win0_5.index t 1 = 0) := by
  decide +kernel

/-- Block `t` of the activations is rows `1024 t …` of the activations' array. -/
theorem blk0_apply (c : Dev nD) (t : Fin cfg0.N) (r : Fin 1024) (k : Fin 1792) :
    (iblk m c 0 t : FVec Ideal S1024x1792 .f32) (ix2 r k)
      = (V m c main_call0_v0 : FVec Ideal S16384x1792 .f32) (ix2 (rowAt t r) k) := by
  refine congrArg (V m c main_call0_v0 : FVec Ideal S16384x1792 .f32) (Shape.idx_ext₂ ?_ ?_)
  · refine ((cfg0.win 0).rect_emb_val t (ix2 r k) 0).trans ?_
    rw [(index_facts t).1.1]; rfl
  · exact (cfg0.win 0).rect_emb_val_of_index_zero t 1 (index_facts t).1.2 (ix2 r k)

/-- Block `t` of the tags is rows `1024 t …` of the tags' column. -/
theorem blk1_apply (c : Dev nD) (t : Fin cfg0.N) (r : Fin 1024) :
    (iblk m c 1 t : FVec Ideal S1024x1 .f32) (ix2 r 0)
      = (V m c main_call0_v2 : FVec Ideal S16384x1 .f32) (ix2 (rowAt t r) 0) := by
  refine congrArg (V m c main_call0_v2 : FVec Ideal S16384x1 .f32) (Shape.idx_ext₂ ?_ ?_)
  · refine ((cfg0.win 1).rect_emb_val t (ix2 r 0) 0).trans ?_
    rw [(index_facts t).2.1.1]; rfl
  · exact (cfg0.win 1).rect_emb_val_of_index_zero t 1 (index_facts t).2.1.2 (ix2 r 0)

/-- Each point's block of the table is the whole table. -/
theorem blk2_eq (c : Dev nD) (t : Fin cfg0.N) :
    (iblk m c 2 t : FVec Ideal S2x1792 .f32) = (V m c main_arg2 : FVec Ideal S2x1792 .f32) := by
  funext y
  exact congrArg (V m c main_arg2 : FVec Ideal S2x1792 .f32) (Shape.idx_ext₂
    ((cfg0.win 2).rect_emb_val_of_index_zero t 0 (index_facts t).2.2.1.1 y)
    ((cfg0.win 2).rect_emb_val_of_index_zero t 1 (index_facts t).2.2.1.2 y))

/-- Each point's block of the scale is the whole scale. -/
theorem blk3_eq (c : Dev nD) (t : Fin cfg0.N) :
    (iblk m c 3 t : FVec Ideal S1x1792 .f32) = (V m c main_call0_v3 : FVec Ideal S1x1792 .f32) := by
  funext y
  exact congrArg (V m c main_call0_v3 : FVec Ideal S1x1792 .f32) (Shape.idx_ext₂
    ((cfg0.win 3).rect_emb_val_of_index_zero t 0 (index_facts t).2.2.2.1.1 y)
    ((cfg0.win 3).rect_emb_val_of_index_zero t 1 (index_facts t).2.2.2.1.2 y))

/-- Each point's block of the shift is the whole shift. -/
theorem blk4_eq (c : Dev nD) (t : Fin cfg0.N) :
    (iblk m c 4 t : FVec Ideal S1x1792 .f32) = (V m c main_call0_v4 : FVec Ideal S1x1792 .f32) := by
  funext y
  exact congrArg (V m c main_call0_v4 : FVec Ideal S1x1792 .f32) (Shape.idx_ext₂
    ((cfg0.win 4).rect_emb_val_of_index_zero t 0 (index_facts t).2.2.2.2.1.1 y)
    ((cfg0.win 4).rect_emb_val_of_index_zero t 1 (index_facts t).2.2.2.2.1.2 y))

/-- Element `(r, l)` of the whole output array, as a function of the arrays at the pipeline's entry: the activations `x`,
    the tags `t` as floats, the table `e`, the scale `g` and the shift `b`. -/
def elem (x : FVec Ideal S16384x1792 .f32) (t : FVec Ideal S16384x1 .f32) (e : FVec Ideal S2x1792 .f32)
    (g b : FVec Ideal S1x1792 .f32) (r : Fin 16384) (l : Fin 1792) : EReal :=
  Row.norm (Block.embRow (fun k => x (ix2 r k)) (t (ix2 r 0)) e) (g (ix2 0 l)) (b (ix2 0 l)) l

/-- The whole output array of core `c`. -/
def whole (c : Dev nD) : FVec Ideal S16384x1792 .f32 := fun i =>
  elem (V m c main_call0_v0) (V m c main_call0_v2) (V m c main_arg2) (V m c main_call0_v3) (V m c main_call0_v4) (i 0) (i 1)

/-- Element `(r, l)` of what the body leaves at point `t` is element `(1024 t + r, l)` of `whole`. -/
theorem out_at (c : Dev nD) (t : Fin cfg0.N) (r : Fin 1024) (l : Fin 1792) :
    out0_5 (F := Ideal) (iblk m c 0 t) (iblk m c 1 t) (iblk m c 2 t) (iblk m c 3 t) (iblk m c 4 t) (ix2 r l)
      = whole m c (ix2 (rowAt t r) l) := by
  rw [Block.out_apply, blk1_apply, blk2_eq, blk3_eq, blk4_eq]
  simp only [blk0_apply]
  rfl

/-- Point `t` writes back block `t` of `whole`. -/
theorem flushed_eq (c : Dev nD) (t : Fin cfg0.N) :
    (dats m 0 c).flushed 5 t = ((cfg0.win 5).blk t).view.read (Elt Ideal) (whole m c) := by
  show (cfg0.win 5).cut (grid0.coords t) ((dats m 0 c).after 5 t) = _
  rw [after0_5]
  funext y
  have hy : (y : S1024x1792.Idx) = ix2 (y 0 : Fin 1024) (y 1 : Fin 1792) := Shape.idx_ext₂ rfl rfl
  refine (congrArg (out0_5 (F := Ideal) (iblk m c 0 t) (iblk m c 1 t) (iblk m c 2 t) (iblk m c 3 t) (iblk m c 4 t)) hy).trans ?_
  refine (out_at m c t (y 0) (y 1)).trans ?_
  refine congrArg (whole m c) (Shape.idx_ext₂ ?_ ?_)
  · refine Eq.trans ?_ ((cfg0.win 5).rect_emb_val t y 0).symm
    rw [(index_facts t).2.2.2.2.2.1]; rfl
  · exact ((cfg0.win 5).rect_emb_val_of_index_zero t 1 (index_facts t).2.2.2.2.2.2 y).symm

/-- Every element of the array lies in the block of its row's quotient by 1024. -/
theorem covered (i : S16384x1792.Idx) :
    ∃ t : Fin cfg0.N, (cfg0.win 5).flush t = true ∧ i ∈ ((cfg0.win 5).blk t).view.set := by
  have h : (i 0).val < 16384 := (i 0).isLt
  let t : Fin cfg0.N := ⟨(i 0).val / 1024, by show (i 0).val / 1024 < 16; omega⟩
  let r : Fin 1024 := ⟨(i 0).val % 1024, Nat.mod_lt _ (by norm_num)⟩
  refine ⟨t, (by decide +kernel : ∀ t : Fin grid0.N, win0_5.flush t = true) t, ?_⟩
  refine Finset.mem_map.mpr ⟨(ix2 r (i 1) : S1024x1792.Idx), Finset.mem_univ _, Shape.idx_ext₂ ?_ ?_⟩
  · refine ((cfg0.win 5).rect_emb_val t (ix2 r (i 1)) 0).trans ?_
    rw [(index_facts t).2.2.2.2.2.1]
    show (i 0).val / 1024 * 1024 + (i 0).val % 1024 = _
    omega
  · exact (cfg0.win 5).rect_emb_val_of_index_zero t 1 (index_facts t).2.2.2.2.2.2 (ix2 r (i 1))

/-- After the pipeline the output array is `whole`. -/
theorem final_eq (c : Dev nD) : (dats m 0 c).arrAt 5 cfg0.N = whole m c :=
  (dats m 0 c).arrAt_eq_of_cover 5 (whole m c) (fun t _ => flushed_eq m c t) covered

end Cert.Array

end
-- ==== Proof.KernelRun.lean ====
/- UNTRUSTED — the kernel program's RUN: the host operations before the pipeline reshape the activations, the tags (made
   floats), the scale and the shift; the host operation after it reshapes the output array. Here the arrays at the pipeline's
   entry are read as functions of the arguments, and the result as one function of the arguments, index by index. -/
module

public import proofs.«01_k».proof.Proof.Array
public import Idealize.ShloMosaic.Lib.StableHlo.Run

@[expose] public section

set_option maxRecDepth 16384

noncomputable section

namespace Cert.KernelRun

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) (ρ : Dev nD → PrngReg)

/-- The activations' array at the pipeline's entry: the argument in 16384 rows. -/
theorem entry_x (c : Dev nD) : (V m c main_call0_v0 : FVec Ideal S16384x1792 .f32)
    = shapeCast S16384x1792 (m ((c : Thread nD τ).loc main_arg0) : FVec Ideal S4x4096x1792 .f32) shapeCasts_S4x4096x1792_S16384x1792 := by
  unfold V V0
  simp only [hostOps0, List.flatten_cons, List.flatten_nil, List.append_nil]
  after_results
  rfl

/-- The tags' array at the pipeline's entry: the argument in one column, as floats. -/
theorem entry_t (c : Dev nD) : (V m c main_call0_v2 : FVec Ideal S16384x1 .f32)
    = sitofp (F := Ideal) .f32 (shapeCast S16384x1 (m ((c : Thread nD τ).loc main_arg1) : IVec S4x4096 32) shapeCasts_S4x4096_S16384x1) := by
  unfold V V0
  simp only [hostOps0, List.flatten_cons, List.flatten_nil, List.append_nil]
  after_results
  rfl

/-- The scale at the pipeline's entry: the argument as one row. -/
theorem entry_g (c : Dev nD) : (V m c main_call0_v3 : FVec Ideal S1x1792 .f32)
    = shapeCast S1x1792 (m ((c : Thread nD τ).loc main_arg3) : FVec Ideal S1792 .f32) shapeCasts_S1792_S1x1792 := by
  unfold V V0
  simp only [hostOps0, List.flatten_cons, List.flatten_nil, List.append_nil]
  after_results
  rfl

/-- The shift at the pipeline's entry: the argument as one row. -/
theorem entry_b (c : Dev nD) : (V m c main_call0_v4 : FVec Ideal S1x1792 .f32)
    = shapeCast S1x1792 (m ((c : Thread nD τ).loc main_arg4) : FVec Ideal S1792 .f32) shapeCasts_S1792_S1x1792 := by
  unfold V V0
  simp only [hostOps0, List.flatten_cons, List.flatten_nil, List.append_nil]
  after_results
  rfl

/-- The result as a function of the arguments: element `(a, b, l)` is element `l` of the normalized row `(a, b)`. -/
def result (x : FVec Ideal S4x4096x1792 .f32) (t : IVec S4x4096 32) (e : FVec Ideal S2x1792 .f32) (g b : FVec Ideal S1792 .f32) :
    FVec Ideal S4x4096x1792 .f32 := fun i =>
  Row.norm (Block.embRow (fun k => x (ix3 (i 0) (i 1) k)) ((t (ix2 (i 0) (i 1))).toInt : ℝ) e) (g (ix1 (i 2))) (b (ix1 (i 2))) (i 2)

/-- Row `(a, b)` of the activations is row `4096 a + b` of the 16384. -/
def row (a : Fin 4) (b : Fin 4096) : Fin 16384 := ⟨a.val * 4096 + b.val, by omega⟩

/-- Its first coordinate is the quotient by 4096. -/
theorem row_div (a : Fin 4) (b : Fin 4096) : (row a b).val / 4096 = a.val := by
  show (a.val * 4096 + b.val) / 4096 = a.val
  omega

/-- Its second coordinate is the remainder by 4096. -/
theorem row_mod (a : Fin 4) (b : Fin 4096) : (row a b).val % 4096 = b.val := by
  show (a.val * 4096 + b.val) % 4096 = b.val
  omega

/-- The output array in its three axes, read at `(a, b, l)`. -/
theorem cast_out (X : FVec Ideal S16384x1792 .f32) (a : Fin 4) (b : Fin 4096) (l : Fin 1792) :
    shapeCast S4x4096x1792 X shapeCasts_S16384x1792_S4x4096x1792 (ix3 a b l) = X (ix2 (row a b) l) := by
  pointwise
  rfl

/-- The activations in 16384 rows, read at row `(a, b)`. -/
theorem cast_x (x : FVec Ideal S4x4096x1792 .f32) (a : Fin 4) (b : Fin 4096) (l : Fin 1792) :
    shapeCast S16384x1792 x shapeCasts_S4x4096x1792_S16384x1792 (ix2 (row a b) l) = x (ix3 a b l) := by
  pointwise
  exact congrArg₂ (fun a b => x (ix3 a b l)) (Fin.ext (row_div a b)) (Fin.ext (row_mod a b))

/-- The tags in one column, read at row `(a, b)`. -/
theorem cast_t (t : IVec S4x4096 32) (a : Fin 4) (b : Fin 4096) :
    shapeCast S16384x1 t shapeCasts_S4x4096_S16384x1 (ix2 (row a b) 0) = t (ix2 a b) := by
  pointwise
  exact congrArg₂ (fun a b => t (ix2 a b)) (Fin.ext (row_div a b)) (Fin.ext (row_mod a b))

/-- A scale or shift as one row, read at `l`. -/
theorem cast_g (g : FVec Ideal S1792 .f32) (l : Fin 1792) :
    shapeCast S1x1792 g shapeCasts_S1792_S1x1792 (ix2 0 l) = g (ix1 l) := by
  pointwise

/-- Element `(r, l)` of the output, `r` the row `(a, b)`, over the reshaped arguments. -/
theorem elem_cast (x : FVec Ideal S4x4096x1792 .f32) (t : IVec S4x4096 32) (e : FVec Ideal S2x1792 .f32) (g s : FVec Ideal S1792 .f32)
    (a : Fin 4) (b : Fin 4096) (l : Fin 1792) :
    Array.elem (shapeCast S16384x1792 x shapeCasts_S4x4096x1792_S16384x1792)
        (sitofp (F := Ideal) .f32 (shapeCast S16384x1 t shapeCasts_S4x4096_S16384x1)) e
        (shapeCast S1x1792 g shapeCasts_S1792_S1x1792) (shapeCast S1x1792 s shapeCasts_S1792_S1x1792) (row a b) l
      = result x t e g s (ix3 a b l) := by
  unfold Array.elem
  simp only [cast_x, cast_g]
  exact congrArg (fun v : BitVec 32 => Row.norm (Block.embRow (fun k => x (ix3 a b k)) ((v.toInt : ℝ) : EReal) e) (g (ix1 l)) (s (ix1 l)) l)
    (cast_t t a b)

/-- The output array in its three axes is `result` of the arguments. -/
theorem whole_cast (c : Dev nD) :
    shapeCast S4x4096x1792 (Array.whole m c) shapeCasts_S16384x1792_S4x4096x1792
      = result (m ((c : Thread nD τ).loc main_arg0)) (m ((c : Thread nD τ).loc main_arg1)) (m ((c : Thread nD τ).loc main_arg2))
          (m ((c : Thread nD τ).loc main_arg3)) (m ((c : Thread nD τ).loc main_arg4)) := by
  funext j
  obtain ⟨a, b, l, rfl⟩ : ∃ (a : Fin 4) (b : Fin 4096) (l : Fin 1792), j = ix3 a b l := ⟨j 0, j 1, j 2, eq_ix3 j⟩
  rw [cast_out]
  show Array.elem (V m c main_call0_v0) (V m c main_call0_v2) (V m c main_arg2) (V m c main_call0_v3) (V m c main_call0_v4)
    (row a b) l = _
  rw [entry_x, entry_t, entry_g, entry_b, V_main_arg2]
  exact elem_cast _ _ _ _ _ a b l

/-- What the result buffer holds after the operation that follows the pipeline. -/
theorem tail_eq (c : Dev nD) : (Pipeline.afterTail₀ cfgs (dats m) 0 (V0 m) [hostOps1] c main_v0 : FVec Ideal S4x4096x1792 .f32)
    = shapeCast S4x4096x1792 (Array.whole m c) shapeCasts_S16384x1792_S4x4096x1792 := by
  unfold Pipeline.afterTail₀
  simp only [hostOps1, List.flatten_cons, List.flatten_nil, List.append_nil]
  after_results
  exact congrArg (fun X : FVec Ideal S16384x1792 .f32 => shapeCast S4x4096x1792 X shapeCasts_S16384x1792_S4x4096x1792)
    ((Pipeline.withArrays_arr spec0 (by decide +kernel) c (V0 m c) _ 5).trans (Array.final_eq m c))

/-- Every run of the kernel's program ends with the result buffer at `result` of the arguments, the arguments unchanged. -/
theorem run : θ_run defs (onTc (τ := τ) (main (F := Ideal))) ⟨m, fun _ => 0, ρ⟩ fun r => ∀ c : Dev nD,
      r.2.mem ((c : Thread nD τ).loc main_v0)
          = result (m ((c : Thread nD τ).loc main_arg0)) (m ((c : Thread nD τ).loc main_arg1)) (m ((c : Thread nD τ).loc main_arg2))
              (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨
      ((h c).2 main_v0 (Pipeline.mem_restRefs_of main_v0 (by decide) (by decide))).trans ((tail_eq m c).trans (whole_cast m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelRun

end
-- ==== Proof.Ref.lean ====
/- UNTRUSTED — what the REFERENCE computes: its result read at an index, in two parts. First the take from the table (the
   wrapped index, the mask of indices inside the table, the gather), which for a tag 0 or 1 is that row of the table; then
   the normalization, which at every row is `Row.refNorm`. -/
module

public import proofs.«01_k».proof.Proof.Gen.ReferenceIdeal.Run
public import proofs.«01_k».proof.Proof.Row
public import Idealize.ShloMosaic.Lib.Pointwise
public import Idealize.ShloMosaic.Lib.Pipeline.Value

@[expose] public section

set_option maxRecDepth 16384

noncomputable section

namespace Cert.Ref

open Idealize.ShloMosaic Idealize.ShloMosaic.TcCoe Cert.ReferenceIdeal Cert.ReferenceIdeal.Gen

/-- The tags as row numbers: a negative one counted from the table's end, on a trailing unit axis. -/
def idx (t : IVec S4x4096 32) : IVec S4x4096x1 32 :=
  broadcastInDim S4x4096x1 ![0, 1] bcast_S4x4096_S4x4096x1_0_1
    (select (cmpi .slt t (broadcastInDim S4x4096 ![] bcast_S_S4x4096 (constantI S_ 32 0#32)))
      (addi t (broadcastInDim S4x4096 ![] bcast_S_S4x4096 (constantI S_ 32 2#32))) t)

/-- Where a row number is inside the table: at least 0 and at most 1. -/
def mask (i : IVec S4x4096x1 32) : IVec S4x4096 1 :=
  Host.reduce IntOp.andi
    (andi (cmpi .sge i (broadcastInDim S4x4096x1 ![] bcast_S_S4x4096x1 (constantI S_ 32 0#32)))
      (cmpi .sle i (broadcastInDim S4x4096x1 ![0, 1, 2] bcast_S1x1x1_S4x4096x1_0_1_2
        (broadcastInDim S1x1x1 ![2] bcast_S1_S1x1x1_2 (constantI S1 32 1#32)))))
    (constantI S_ 1 1#1) reducesTo_S4x4096x1_S4x4096_d2 h_S_

/-- The rows taken from the table: the gathered row where the row number is inside, a fill value elsewhere. -/
def taken (e : FVec Ideal S2x1792 .f32) (i : IVec S4x4096x1 32) : FVec Ideal S4x4096x1792 .f32 :=
  select (broadcastInDim S4x4096x1792 ![0, 1] bcast_S4x4096_S4x4096x1792_0_1 (mask i))
    (Host.gather gather_S2x1792_S4x4096x1_S4x4096x1792_2_0_n_n_0_2_11792 e i)
    (broadcastInDim S4x4096x1792 ![] bcast_S_S4x4096x1792 (constant S_ .f32 0x7FC00000#32))

/-- The mean over the last axis, kept as a unit axis. -/
def means (y : FVec Ideal S4x4096x1792 .f32) : FVec Ideal S4x4096x1 .f32 :=
  Host.divf
    (broadcastInDim S4x4096x1 ![0, 1] bcast_S4x4096_S4x4096x1_0_1
      (Host.reduceAdd y (constant S_ .f32 0x00000000#32) reducesTo_S4x4096x1792_S4x4096_d2 h_S_))
    (broadcastInDim S4x4096x1 ![] bcast_S_S4x4096x1 (constant S_ .f32 0x44E00000#32))

/-- The deviations from the mean. -/
def devs (y : FVec Ideal S4x4096x1792 .f32) : FVec Ideal S4x4096x1792 .f32 :=
  subf y (broadcastInDim S4x4096x1792 ![0, 1, 2] bcast_S4x4096x1_S4x4096x1792_0_1_2 (means y))

/-- The number the sum of squares is divided by: the row length less no degree of freedom. -/
def count : FVec Ideal S_ .f32 := subf (constant S_ .f32 0x44E00000#32) (sitofp .f32 (constantI S_ 32 0#32))

/-- The variance over the last axis, kept as a unit axis; a fill value were the count not positive. -/
def vars (y : FVec Ideal S4x4096x1792 .f32) : FVec Ideal S4x4096x1 .f32 :=
  select (broadcastInDim S4x4096x1 ![] bcast_S_S4x4096x1 (cmpf .ogt count (constant S_ .f32 0x00000000#32)))
    (Host.divf
      (broadcastInDim S4x4096x1 ![0, 1] bcast_S4x4096_S4x4096x1_0_1
        (Host.reduceAdd (mulf (devs y) (devs y)) (constant S_ .f32 0x00000000#32) reducesTo_S4x4096x1792_S4x4096_d2 h_S_))
      (broadcastInDim S4x4096x1 ![] bcast_S_S4x4096x1 count))
    (broadcastInDim S4x4096x1 ![] bcast_S_S4x4096x1 (id (constant S_ .f32 0x7FC00000#32)))

/-- The normalized array, scaled and shifted. -/
def normed (y : FVec Ideal S4x4096x1792 .f32) (g b : FVec Ideal S1792 .f32) : FVec Ideal S4x4096x1792 .f32 :=
  addf
    (mulf
      (Host.divf (devs y)
        (broadcastInDim S4x4096x1792 ![0, 1, 2] bcast_S4x4096x1_S4x4096x1792_0_1_2
          (Host.sqrt (addf (vars y) (broadcastInDim S4x4096x1 ![] bcast_S_S4x4096x1 (constant S_ .f32 0x3727C5AC#32))))))
      (broadcastInDim S4x4096x1792 ![0, 1, 2] bcast_S1x1x1792_S4x4096x1792_0_1_2
        (broadcastInDim S1x1x1792 ![2] bcast_S1792_S1x1x1792_2 g)))
    (broadcastInDim S4x4096x1792 ![0, 1, 2] bcast_S1x1x1792_S4x4096x1792_0_1_2
      (broadcastInDim S1x1x1792 ![2] bcast_S1792_S1x1x1792_2 b))

variable (m : (ℓ : Loc nD τ sig) → Buf (Elt Ideal) ℓ)

/-- The reference's result is the normalization of the activations plus the taken rows. -/
theorem res_eq (c : Dev nD) : (Value.res_main_v19 (F := Ideal) m c : FVec Ideal S4x4096x1792 .f32)
    = normed (addf (m ((c : Thread nD τ).loc main_arg0)) (taken (m ((c : Thread nD τ).loc main_arg2)) (idx (m ((c : Thread nD τ).loc main_arg1)))))
        (m ((c : Thread nD τ).loc main_arg3)) (m ((c : Thread nD τ).loc main_arg4)) := rfl

/-! ## The take -/

/-- A tag 0 or 1 is its own row number: it is not negative, so nothing is added. -/
theorem idx_apply (t : IVec S4x4096 32) (a : Fin 4) (b : Fin 4096) (h : t (ix2 a b) = 0#32 ∨ t (ix2 a b) = 1#32) :
    idx t (ix3 a b 0) = t (ix2 a b) := by
  pointwise [idx]
  rcases h with h | h <;> rw [h] <;> rfl

/-- Row numbers 0 and 1 are inside the table. -/
theorem mask_apply (i : IVec S4x4096x1 32) (a : Fin 4) (b : Fin 4096) (h : i (ix3 a b 0) = 0#32 ∨ i (ix3 a b 0) = 1#32) :
    mask i (ix2 a b) = 1#1 := by
  pointwise [mask]
  rw [Finset.univ_unique, Finset.fold_singleton]
  show IntOp.andi (IntOp.andi (IntOp.cmpi .sge (i (ix3 a b 0)) 0#32) (IntOp.cmpi .sle (i (ix3 a b 0)) 1#32)) 1#1 = 1#1
  rcases h with h | h <;> rw [h] <;> rfl

/-- The element of the start indices that result element `(a, b, l)` reads. -/
theorem siIdx_eq (a : Fin 4) (b : Fin 4096) (l : Fin 1792) (h) :
    gather_S2x1792_S4x4096x1_S4x4096x1792_2_0_n_n_0_2_11792.siIdx (ix3 a b l) ⟨0, h⟩ = ix3 a b 0 := by
  funext k
  fin_cases k <;> rfl

/-- The gather reads, at `(a, b, l)`, lane `l` of the row `n` that the row number spells. -/
theorem gather_apply (e : FVec Ideal S2x1792 .f32) (i : IVec S4x4096x1 32) (a : Fin 4) (b : Fin 4096) (l : Fin 1792) (n : Fin 2)
    (h : (i (ix3 a b 0)).toInt.toNat = n.val) :
    Host.gather gather_S2x1792_S4x4096x1_S4x4096x1792_2_0_n_n_0_2_11792 e i (ix3 a b l) = e (ix2 n l) := by
  refine congrArg e (Shape.idx_ext₂ ?_ ?_)
  · refine (congrArg (fun k => min (i k).toInt.toNat 1 + 0 + 0) (siIdx_eq a b l (by decide))).trans ?_
    show min (i (ix3 a b 0)).toInt.toNat 1 + 0 + 0 = n.val
    rw [h]
    omega
  · show 0 + 0 + l.val = l.val
    omega

/-- What is taken for a tag 0 is row 0 of the table. -/
theorem taken_zero (e : FVec Ideal S2x1792 .f32) (t : IVec S4x4096 32) (a : Fin 4) (b : Fin 4096) (l : Fin 1792)
    (h : t (ix2 a b) = 0#32) : taken e (idx t) (ix3 a b l) = e (ix2 0 l) := by
  have hi : idx t (ix3 a b 0) = 0#32 := (idx_apply t a b (.inl h)).trans h
  pointwise [taken]
  rw [mask_apply _ a b (.inl hi), gather_apply e _ a b l 0 (by rw [hi]; rfl)]
  rfl

/-- What is taken for a tag 1 is row 1 of the table. -/
theorem taken_one (e : FVec Ideal S2x1792 .f32) (t : IVec S4x4096 32) (a : Fin 4) (b : Fin 4096) (l : Fin 1792)
    (h : t (ix2 a b) = 1#32) : taken e (idx t) (ix3 a b l) = e (ix2 1 l) := by
  have hi : idx t (ix3 a b 0) = 1#32 := (idx_apply t a b (.inr h)).trans h
  pointwise [taken]
  rw [mask_apply _ a b (.inr hi), gather_apply e _ a b l 1 (by rw [hi]; rfl)]
  rfl

/-! ## The normalization -/

/-- The mean read at a row. -/
theorem means_apply (y : FVec Ideal S4x4096x1792 .f32) (a : Fin 4) (b : Fin 4096) :
    means y (ix3 a b 0) = Row.refMean fun k => y (ix3 a b k) := by
  pointwise [means]
  rfl

/-- The deviation read at an element. -/
theorem devs_apply (y : FVec Ideal S4x4096x1792 .f32) (a : Fin 4) (b : Fin 4096) (l : Fin 1792) :
    devs y (ix3 a b l) = y (ix3 a b l) - Row.refMean fun k => y (ix3 a b k) := by
  pointwise [devs]
  rw [means_apply]

/-- The count is the row length. -/
theorem count_eq (j : S_.Idx) : count j = Row.len := by
  pointwise [count]
  show Row.len - (((0#32 : BitVec 32).toInt : ℝ) : EReal) = Row.len
  simp

/-- The count is positive. -/
theorem len_pos : (0 : EReal) < Row.len := by
  unfold Row.len
  rw [Consts.ofBits_1792]
  exact_mod_cast (by norm_num : (0 : ℝ) < 1792)

/-- The variance read at a row. -/
theorem vars_apply (y : FVec Ideal S4x4096x1792 .f32) (a : Fin 4) (b : Fin 4096) :
    vars y (ix3 a b 0) = Row.refVar fun k => y (ix3 a b k) := by
  pointwise [vars]
  simp only [count_eq, devs_apply]
  rw [if_pos len_pos]
  rfl

/-- The reference's result read at an element. -/
theorem normed_apply (y : FVec Ideal S4x4096x1792 .f32) (g s : FVec Ideal S1792 .f32) (a : Fin 4) (b : Fin 4096) (l : Fin 1792) :
    normed y g s (ix3 a b l) = Row.refNorm (fun k => y (ix3 a b k)) (g (ix1 l)) (s (ix1 l)) l := by
  pointwise [normed]
  rw [devs_apply, vars_apply]
  rfl

end Cert.Ref

end
-- ==== Proof.Equation.lean ====
/- UNTRUSTED — THE EQUATION: where every tag is 0 or 1, the kernel's result and the reference's are the same array. A tag
   made a float exceeds 0.5 exactly when it is 1, so the kernel adds the row that the reference takes; the two
   normalizations of one row are equal by `Row.refNorm_eq`. -/
module

public import proofs.«01_k».proof.Proof.KernelRun
public import proofs.«01_k».proof.Proof.Ref
public import proofs.«01_k».proof.Proof.Gen.Pre_tags_in_range

@[expose] public section

noncomputable section

namespace Cert.Equation

open Idealize.ShloMosaic

/-- A signed word at least 0 and below 2 is 0 or 1. -/
theorem word_cases (v : BitVec 32) (h : IntOp.andi (IntOp.cmpi .sge v 0#32) (IntOp.cmpi .slt v 2#32) = 1#1) :
    v = 0#32 ∨ v = 1#32 := by
  have h0 : 0 ≤ v.toInt ∧ v.toInt < 2 := by
    by_cases h1 : 0 ≤ v.toInt <;> by_cases h2 : v.toInt < 2 <;>
      simp_all [IntOp.andi, IntOp.cmpi, BitVec.sle, BitVec.slt]
  have h3 : v.toInt = 0 ∨ v.toInt = 1 := by omega
  rcases h3 with h3 | h3
  · exact .inl (BitVec.eq_of_toInt_eq h3)
  · exact .inr (BitVec.eq_of_toInt_eq h3)

/-- Under the precondition every tag is 0 or 1. -/
theorem tags (x : FVec Ideal Cert.Pre_tags_in_range.S4x4096x1792 .f32) (t : IVec Cert.Pre_tags_in_range.S4x4096 32)
    (e : FVec Ideal Cert.Pre_tags_in_range.S2x1792 .f32) (g s : FVec Ideal Cert.Pre_tags_in_range.S1792 .f32)
    (h : Cert.Pre_tags_in_range.fn (F := Ideal) x t e g s = fun _ => 1#1) (a : Fin 4) (b : Fin 4096) :
    t (ix2 a b) = 0#32 ∨ t (ix2 a b) = 1#32 := by
  have h1 := congrFun h (ix2 a b)
  refine word_cases _ (Eq.trans ?_ h1)
  pointwise [Cert.Pre_tags_in_range.fn]

/-- Zero does not exceed one half. -/
theorem zero_le_half : ¬ Ideal.ofBits .f32 0x3F000000#32 < (((0#32 : BitVec 32).toInt : ℝ) : EReal) := by
  rw [Consts.ofBits_half]
  exact_mod_cast (by norm_num : ¬ (2⁻¹ : ℝ) < ((0#32 : BitVec 32).toInt : ℝ))

/-- One exceeds one half. -/
theorem half_lt_one : Ideal.ofBits .f32 0x3F000000#32 < (((1#32 : BitVec 32).toInt : ℝ) : EReal) := by
  rw [Consts.ofBits_half]
  exact_mod_cast (by norm_num : (2⁻¹ : ℝ) < ((1#32 : BitVec 32).toInt : ℝ))

/-- At every element the row that the kernel normalizes is the row that the reference normalizes. -/
theorem row_eq (x : FVec Ideal Cert.KernelIdeal.S4x4096x1792 .f32) (t : IVec Cert.KernelIdeal.S4x4096 32)
    (e : FVec Ideal Cert.KernelIdeal.S2x1792 .f32) (a : Fin 4) (b : Fin 4096) (h : t (ix2 a b) = 0#32 ∨ t (ix2 a b) = 1#32) :
    Block.embRow (fun k => x (ix3 a b k)) (((t (ix2 a b)).toInt : ℝ) : EReal) e
      = fun k => (addf x (Ref.taken e (Ref.idx t)) : FVec Ideal Cert.ReferenceIdeal.S4x4096x1792 .f32) (ix3 a b k) := by
  funext k
  show (x (ix3 a b k) + if _ then e (ix2 1 k) else e (ix2 0 k)) = x (ix3 a b k) + Ref.taken e (Ref.idx t) (ix3 a b k)
  rcases h with h | h
  · rw [Ref.taken_zero e t a b k h, h, if_neg zero_le_half]
  · rw [Ref.taken_one e t a b k h, h, if_pos half_lt_one]

/-- The kernel's result is the reference's, as whole arrays. -/
theorem result_eq (x : FVec Ideal Cert.KernelIdeal.S4x4096x1792 .f32) (t : IVec Cert.KernelIdeal.S4x4096 32)
    (e : FVec Ideal Cert.KernelIdeal.S2x1792 .f32) (g s : FVec Ideal Cert.KernelIdeal.S1792 .f32)
    (h : ∀ a b, t (ix2 a b) = 0#32 ∨ t (ix2 a b) = 1#32) :
    KernelRun.result x t e g s = Ref.normed (addf x (Ref.taken e (Ref.idx t))) g s := by
  funext j
  obtain ⟨a, b, l, rfl⟩ : ∃ (a : Fin 4) (b : Fin 4096) (l : Fin 1792), j = ix3 a b l := ⟨j 0, j 1, j 2, eq_ix3 j⟩
  rw [Ref.normed_apply, Row.refNorm_eq, ← row_eq x t e a b (h a b)]
  rfl

end Cert.Equation

end
-- ==== Proof.lean ====
/- UNTRUSTED — the proof of `Cert.Claim`, assembled from the modules under Proof/:

     Consts     the float constants' values
     Row        layer normalization of one row, as the kernel and as the reference spell it, and that the two agree
     Block      what one block of the kernel computes
     Array      what the pipeline's output array holds
     KernelRun  the kernel program's run: its result as one function of the arguments
     Ref        the reference's result read at an index
     Equation   under the precondition the two results are one array

   The frames are the generated ones; the named constant's statement is its rule's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_tags_in_range
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem

/-- The reference's program ends, its arguments unchanged and every counter at zero. -/
theorem reference_frame : quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The value claim: from equal arguments, every tag 0 or 1, the kernel's program with the named constant and the
    reference's program end with one and the same result, the arguments unchanged. -/
theorem value : algebraic_KernelIdeal_ReferenceIdeal_pre_tags_in_range (hKernelIdeal := Cert.KernelIdeal.Gen.facts)
    (hReferenceIdeal := Cert.ReferenceIdeal.Gen.facts) (hPre_tags_in_range := Cert.Pre_tags_in_range.Gen.facts) := by
  intro m g m' g' hpre hargs
  refine ⟨_, Cert.KernelRun.run m g, (θ_run Cert.ReferenceIdeal.defs _ _).mono (fun r h c => ⟨(h c).1.trans ?_, (h c).2⟩)
    (Cert.ReferenceIdeal.Value.run (F := Ideal) m' g')⟩
  obtain ⟨h0, h1, h2, h3, h4⟩ := hargs c
  refine (Cert.Ref.res_eq m' c).trans ?_
  rw [h0, h1, h2, h3, h4]
  exact (Cert.Equation.result_eq _ _ _ _ _ (Cert.Equation.tags _ _ _ _ _ (hpre c))).symm

/-- Every claim of the statement. -/
theorem claim : Cert.Claim :=
  ⟨Cert.Kernel.Gen.facts, Cert.KernelIdeal.Gen.facts, Cert.ReferenceIdeal.Gen.facts, Cert.Pre_tags_in_range.Gen.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    IdealRules.named_const.statement Cert.KernelIdeal.κ "inv_d" .f32 _ _ rfl,
    value⟩

end Cert.Proof

end
